-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separable_table [hPre_separable_table : Cert.Pre_separable_table.Facts] (m : (ℓ : Loc Cert.KernelIdeal.nD Cert.KernelIdeal.τ Cert.KernelIdeal.sig) → Buf (Elt Ideal) ℓ) : Prop :=
  ∀ c : Dev Cert.KernelIdeal.nD,
    (Cert.Pre_separable_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separable_table [hPre_separable_table : Cert.Pre_separable_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separable_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separable_table [hKernelIdeal : Cert.KernelIdeal.Facts] [hPre_separable_table : Cert.Pre_separable_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separable_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separable_table [hReferenceIdeal : Cert.ReferenceIdeal.Facts] [hPre_separable_table : Cert.Pre_separable_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separable_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separable_table [hKernelIdeal : Cert.KernelIdeal.Facts] [hReferenceIdeal : Cert.ReferenceIdeal.Facts] [hPre_separable_table : Cert.Pre_separable_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separable_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separable_table : Cert.Pre_separable_table.Facts),
    quiescent_Kernel (hKernel := hKernel)
    ∧ quiescent_KernelIdeal (hKernelIdeal := hKernelIdeal)
    ∧ quiescent_KernelIdeal_pre_separable_table (hKernelIdeal := hKernelIdeal) (hPre_separable_table := hPre_separable_table)
    ∧ quiescent_ReferenceIdeal (hReferenceIdeal := hReferenceIdeal)
    ∧ quiescent_ReferenceIdeal_pre_separable_table (hReferenceIdeal := hReferenceIdeal) (hPre_separable_table := hPre_separable_table)
    ∧ preserves_Kernel_KernelIdeal
    ∧ algebraic_KernelIdeal_ReferenceIdeal_pre_separable_table (hKernelIdeal := hKernelIdeal) (hReferenceIdeal := hReferenceIdeal) (hPre_separable_table := hPre_separable_table)
-- ==== Pre_separable_table.lean ====
abbrev S2x16384x256 : Shape := ⟨3, ![2, 16384, 256]⟩
abbrev S2x16384x3 : Shape := ⟨3, ![2, 16384, 3]⟩
abbrev S1048576x30 : Shape := ⟨2, ![1048576, 30]⟩
abbrev S64x128x128x30 : Shape := ⟨4, ![64, 128, 128, 30]⟩
abbrev S64x64x64x30 : Shape := ⟨4, ![64, 64, 64, 30]⟩
abbrev S64x10 : Shape := ⟨2, ![64, 10]⟩
abbrev S64x1x1x10 : Shape := ⟨4, ![64, 1, 1, 10]⟩
abbrev S64x64x64x10 : Shape := ⟨4, ![64, 64, 64, 10]⟩
abbrev S1x64x1x10 : Shape := ⟨4, ![1, 64, 1, 10]⟩
abbrev S1x1x64x10 : Shape := ⟨4, ![1, 1, 64, 10]⟩
abbrev S_ : Shape := ⟨0, ![]⟩

class Facts : Prop where
  shapeCasts_S1048576x30_S64x128x128x30 : S1048576x30.ShapeCasts S64x128x128x30
  slices_S64x128x128x30_S64x64x64x30_0_0_0_0 : S64x128x128x30.Slices ![0, 0, 0, 0] S64x64x64x30
  slices_S1048576x30_S64x10_0_20 : S1048576x30.Slices ![0, 20] S64x10
  bcast_S64x10_S64x1x1x10_0_3 : S64x10.BroadcastsInDim S64x1x1x10 (![0, 3] : Fin 2 → Fin S64x1x1x10.rank)
  bcast_S64x1x1x10_S64x64x64x10_0_1_2_3 : S64x1x1x10.BroadcastsInDim S64x64x64x10 (![0, 1, 2, 3] : Fin 4 → Fin S64x64x64x10.rank)
  bcast_S64x10_S1x64x1x10_1_3 : S64x10.BroadcastsInDim S1x64x1x10 (![1, 3] : Fin 2 → Fin S1x64x1x10.rank)
  bcast_S1x64x1x10_S64x64x64x10_0_1_2_3 : S1x64x1x10.BroadcastsInDim S64x64x64x10 (![0, 1, 2, 3] : Fin 4 → Fin S64x64x64x10.rank)
  bcast_S64x10_S1x1x64x10_2_3 : S64x10.BroadcastsInDim S1x1x64x10 (![2, 3] : Fin 2 → Fin S1x1x64x10.rank)
  bcast_S1x1x64x10_S64x64x64x10_0_1_2_3 : S1x1x64x10.BroadcastsInDim S64x64x64x10 (![0, 1, 2, 3] : Fin 4 → Fin S64x64x64x10.rank)
  concatenates_S64x64x64x10_S64x64x64x10_S64x64x64x10_S64x64x64x30_d3 : Shape.Concatenates [S64x64x64x10, S64x64x64x10, S64x64x64x10] S64x64x64x30 3
  bcast_S_S2x16384x3 : S_.BroadcastsInDim S2x16384x3 (![] : Fin 0 → Fin S2x16384x3.rank)
  reducesTo_S2x16384x3_S_d0_1_2 : S2x16384x3.ReducesTo [0, 1, 2] S_
  h_S_ : 0 < S_.numel
  reducesTo_S64x64x64x30_S_d0_1_2_3 : S64x64x64x30.ReducesTo [0, 1, 2, 3] S_

variable [Facts]

def fn {F : FTy → Type} [FloatOps F] (main_arg0 : FVec F S2x16384x256 .f32) (main_arg1 : IVec S2x16384x3 32) (main_arg2 : FVec F S1048576x30 .f32) : IVec S_ 1 :=
  let main_v0 : FVec F S64x128x128x30 .f32 := shapeCast S64x128x128x30 main_arg2 shapeCasts_S1048576x30_S64x128x128x30
  let main_v1 : FVec F S64x64x64x30 .f32 := (extractStridedSlice S64x64x64x30 ![0, 0, 0, 0] · slices_S64x128x128x30_S64x64x64x30_0_0_0_0) main_v0
  let main_v2 : FVec F S64x10 .f32 := (extractStridedSlice S64x10 ![0, 20] · slices_S1048576x30_S64x10_0_20) main_arg2
  let main_v3 : FVec F S64x1x1x10 .f32 := broadcastInDim S64x1x1x10 ![0, 3] bcast_S64x10_S64x1x1x10_0_3 main_v2
  let main_v4 : FVec F S64x64x64x10 .f32 := broadcastInDim S64x64x64x10 ![0, 1, 2, 3] bcast_S64x1x1x10_S64x64x64x10_0_1_2_3 main_v3
  let main_v5 : FVec F S1x64x1x10 .f32 := broadcastInDim S1x64x1x10 ![1, 3] bcast_S64x10_S1x64x1x10_1_3 main_v2
  let main_v6 : FVec F S64x64x64x10 .f32 := broadcastInDim S64x64x64x10 ![0, 1, 2, 3] bcast_S1x64x1x10_S64x64x64x10_0_1_2_3 main_v5
  let main_v7 : FVec F S1x1x64x10 .f32 := broadcastInDim S1x1x64x10 ![2, 3] bcast_S64x10_S1x1x64x10_2_3 main_v2
  let main_v8 : FVec F S64x64x64x10 .f32 := broadcastInDim S64x64x64x10 ![0, 1, 2, 3] bcast_S1x1x64x10_S64x64x64x10_0_1_2_3 main_v7
  let main_v9 : FVec F S64x64x64x30 .f32 := concatenate S64x64x64x30 3 [⟨S64x64x64x10, main_v4⟩, ⟨S64x64x64x10, main_v6⟩, ⟨S64x64x64x10, main_v8⟩] concatenates_S64x64x64x10_S64x64x64x10_S64x64x64x10_S64x64x64x30_d3
  let main_c : IVec S_ 32 := constantI S_ 32 0#32
  let main_v10 : IVec S2x16384x3 32 := broadcastInDim S2x16384x3 ![] bcast_S_S2x16384x3 main_c
  let main_v11 : IVec S2x16384x3 1 := cmpi .sge main_arg1 main_v10
  let main_c_0 : IVec S_ 32 := constantI S_ 32 64#32
  let main_v12 : IVec S2x16384x3 32 := broadcastInDim S2x16384x3 ![] bcast_S_S2x16384x3 main_c_0
  let main_v13 : IVec S2x16384x3 1 := cmpi .slt main_arg1 main_v12
  let main_v14 : IVec S2x16384x3 1 := andi main_v11 main_v13
  let main_c_1 : IVec S_ 1 := constantI S_ 1 1#1
  let main_v15 : IVec S_ 1 := (fun x v => Host.reduce IntOp.andi x v reducesTo_S2x16384x3_S_d0_1_2 h_S_) main_v14 main_c_1
  let main_v16 : IVec S64x64x64x30 1 := cmpf .oeq main_v1 main_v9
  let main_c_2 : IVec S_ 1 := constantI S_ 1 1#1
  let main_v17 : IVec S_ 1 := (fun x v => Host.reduce IntOp.andi x v reducesTo_S64x64x64x30_S_d0_1_2_3 h_S_) main_v16 main_c_2
  let main_v18 : IVec S_ 1 := andi main_v15 main_v17
  main_v18
-- ==== Kernel.lean ====
abbrev S2x16384x256 : Shape := ⟨3, ![2, 16384, 256]⟩
abbrev S2x16384x3 : Shape := ⟨3, ![2, 16384, 3]⟩
abbrev S1048576x30 : Shape := ⟨2, ![1048576, 30]⟩
abbrev S2x128x128x256 : Shape := ⟨4, ![2, 128, 128, 256]⟩
abbrev S2x128x128x3 : Shape := ⟨4, ![2, 128, 128, 3]⟩
abbrev S3x128x2x128 : Shape := ⟨4, ![3, 128, 2, 128]⟩
abbrev S3x256x128 : Shape := ⟨3, ![3, 256, 128]⟩
abbrev S64x30 : Shape := ⟨2, ![64, 30]⟩
abbrev S286x256x128 : Shape := ⟨3, ![286, 256, 128]⟩
abbrev S3x32x128 : Shape := ⟨3, ![3, 32, 128]⟩
abbrev S2x16x128x256 : Shape := ⟨4, ![2, 16, 128, 256]⟩
abbrev S286x32x128 : Shape := ⟨3, ![286, 32, 128]⟩
abbrev S256x16x2x128 : Shape := ⟨4, ![256, 16, 2, 128]⟩
abbrev S256x32x128 : Shape := ⟨3, ![256, 32, 128]⟩
abbrev S64x10 : Shape := ⟨2, ![64, 10]⟩
abbrev S10x64 : Shape := ⟨2, ![10, 64]⟩
abbrev S64x32x128 : Shape := ⟨3, ![64, 32, 128]⟩
abbrev S1x32x128 : Shape := ⟨3, ![1, 32, 128]⟩
abbrev S64x4096 : Shape := ⟨2, ![64, 4096]⟩
abbrev S10x4096 : Shape := ⟨2, ![10, 4096]⟩
abbrev S10x32x128 : Shape := ⟨3, ![10, 32, 128]⟩
abbrev S286x128x2x128 : Shape := ⟨4, ![286, 128, 2, 128]⟩
abbrev S2x128x128x286 : Shape := ⟨4, ![2, 128, 128, 286]⟩
abbrev S2x16384x286 : Shape := ⟨3, ![2, 16384, 286]⟩

abbrev nBuf : Space → Nat
  | .hbm => 12
  | .vmem => 7
  | .smem => 0
  | _ => 0

abbrev bufTy : (tb : Table) → Fin (tcTables nBuf tb) → BufTy
  | .hbm, ⟨0, _⟩ => ⟨S2x16384x256, .f32⟩
  | .hbm, ⟨1, _⟩ => ⟨S2x16384x3, .i32⟩
  | .hbm, ⟨2, _⟩ => ⟨S1048576x30, .f32⟩
  | .hbm, ⟨3, _⟩ => ⟨S2x128x128x256, .f32⟩
  | .hbm, ⟨4, _⟩ => ⟨S2x128x128x3, .i32⟩
  | .hbm, ⟨5, _⟩ => ⟨S3x128x2x128, .i32⟩
  | .hbm, ⟨6, _⟩ => ⟨S3x256x128, .i32⟩
  | .hbm, ⟨7, _⟩ => ⟨S64x30, .f32⟩
  | .hbm, ⟨8, _⟩ => ⟨S286x256x128, .f32⟩
  | .hbm, ⟨9, _⟩ => ⟨S286x128x2x128, .f32⟩
  | .hbm, ⟨10, _⟩ => ⟨S2x128x128x286, .f32⟩
  | .hbm, ⟨11, _⟩ => ⟨S2x16384x286, .f32⟩
  | .local _ .vmem, ⟨0, _⟩ => ⟨S3x32x128, .i32⟩
  | .local _ .vmem, ⟨1, _⟩ => ⟨S3x32x128, .i32⟩
  | .local _ .vmem, ⟨2, _⟩ => ⟨S2x16x128x256, .f32⟩
  | .local _ .vmem, ⟨3, _⟩ => ⟨S2x16x128x256, .f32⟩
  | .local _ .vmem, ⟨4, _⟩ => ⟨S64x30, .f32⟩
  | .local _ .vmem, ⟨5, _⟩ => ⟨S286x32x128, .f32⟩
  | .local _ .vmem, ⟨6, _⟩ => ⟨S286x32x128, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S286x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x16384x256 : Shape := ⟨3, ![2, 16384, 256]⟩
abbrev S2x16384x3 : Shape := ⟨3, ![2, 16384, 3]⟩
abbrev S1048576x30 : Shape := ⟨2, ![1048576, 30]⟩
abbrev S2x16384x1 : Shape := ⟨3, ![2, 16384, 1]⟩
abbrev S2x16384 : Shape := ⟨2, ![2, 16384]⟩
abbrev S_ : Shape := ⟨0, ![]⟩
abbrev S1 : Shape := ⟨1, ![1]⟩
abbrev S1x1x1 : Shape := ⟨3, ![1, 1, 1]⟩
abbrev S2x16384x30 : Shape := ⟨3, ![2, 16384, 30]⟩
abbrev S2x16384x286 : Shape := ⟨3, ![2, 16384, 286]⟩

abbrev nBuf : Space → Nat
  | .hbm => 44
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x3, .i32⟩
  | .hbm, ⟨2, _⟩ => ⟨S1048576x30, .f32⟩
  | .hbm, ⟨3, _⟩ => ⟨S2x16384x1, .i32⟩
  | .hbm, ⟨4, _⟩ => ⟨S2x16384, .i32⟩
  | .hbm, ⟨5, _⟩ => ⟨S_, .i32⟩
  | .hbm, ⟨6, _⟩ => ⟨S2x16384, .i32⟩
  | .hbm, ⟨7, _⟩ => ⟨S2x16384, .i32⟩
  | .hbm, ⟨8, _⟩ => ⟨S2x16384x1, .i32⟩
  | .hbm, ⟨9, _⟩ => ⟨S2x16384, .i32⟩
  | .hbm, ⟨10, _⟩ => ⟨S_, .i32⟩
  | .hbm, ⟨11, _⟩ => ⟨S2x16384, .i32⟩
  | .hbm, ⟨12, _⟩ => ⟨S2x16384, .i32⟩
  | .hbm, ⟨13, _⟩ => ⟨S2x16384, .i32⟩
  | .hbm, ⟨14, _⟩ => ⟨S2x16384x1, .i32⟩
  | .hbm, ⟨15, _⟩ => ⟨S2x16384, .i32⟩
  | .hbm, ⟨16, _⟩ => ⟨S2x16384, .i32⟩
  | .hbm, ⟨17, _⟩ => ⟨S_, .i32⟩
  | .hbm, ⟨18, _⟩ => ⟨S2x16384, .i32⟩
  | .hbm, ⟨19, _⟩ => ⟨S2x16384, .i1⟩
  | .hbm, ⟨20, _⟩ => ⟨S_, .i32⟩
  | .hbm, ⟨21, _⟩ => ⟨S2x16384, .i32⟩
  | .hbm, ⟨22, _⟩ => ⟨S2x16384, .i32⟩
  | .hbm, ⟨23, _⟩ => ⟨S2x16384, .i32⟩
  | .hbm, ⟨24, _⟩ => ⟨S2x16384x1, .i32⟩
  | .hbm, ⟨25, _⟩ => ⟨S1, .i32⟩
  | .hbm, ⟨26, _⟩ => ⟨S_, .i32⟩
  | .hbm, ⟨27, _⟩ => ⟨S2x16384x1, .i32⟩
  | .hbm, ⟨28, _⟩ => ⟨S2x16384x1, .i1⟩
  | .hbm, ⟨29, _⟩ => ⟨S1x1x1, .i32⟩
  | .hbm, ⟨30, _⟩ => ⟨S2x16384x1, .i32⟩
  | .hbm, ⟨31, _⟩ => ⟨S2x16384x1, .i1⟩
  | .hbm, ⟨32, _⟩ => ⟨S2x16384x1, .i1⟩
  | .hbm, ⟨33, _⟩ => ⟨S_, .i1⟩
  | .hbm, ⟨34, _⟩ => ⟨S2x16384, .i1⟩
  | .hbm, ⟨35, _⟩ => ⟨S2x16384x30, .f32⟩
  | .hbm, ⟨36, _⟩ => ⟨S2x16384x30, .i1⟩
  | .hbm, ⟨37, _⟩ => ⟨S_, .f32⟩
  | .hbm, ⟨38, _⟩ => ⟨S2x16384x30, .f32⟩
  | .hbm, ⟨39, _⟩ => ⟨S2x16384x30, .f32⟩
  | .hbm, ⟨40, _⟩ => ⟨S_, .f32⟩
  | .hbm, ⟨41, _⟩ => ⟨S2x16384x30, .f32⟩
  | .hbm, ⟨42, _⟩ => ⟨S2x16384x30, .f32⟩
  | .hbm, ⟨43, _⟩ => ⟨S2x16384x286, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Proof.Pre.lean ====
module

public import proofs.«01_k».proof.Proof.Gen.Pre_separable_table
public import Idealize.ShloMosaic.Lib.Pointwise
public import Idealize.ShloMosaic.Lib.Affine
public import Idealize.ShloMosaic.Lib.ReduceAll
public import Idealize.ShloMosaic.Lib.WordCmp

@[expose] public section

/-! # What the precondition says

`separable_table` is the conjunction of two `all`s. Read element by element they say that every coordinate word is a
number below 64, and that the table's row for the coordinates `(a, b, d)` holds, in its column `k`, what row `a`, `b` or
`d` (by the third of the columns that `k` lies in) holds in the last third's matching column. -/

namespace Cert.Proof

open Idealize.ShloMosaic
open Cert.Pre_separable_table Cert.Pre_separable_table.Facts

/-- The one of three coordinates that a table column depends on: the first for columns 0 to 9, the second for columns
    10 to 19, the third for columns 20 to 29. -/
abbrev pick {n : Nat} (a b d : Fin n) (k : Nat) : Fin n := if k < 10 then a else if k < 20 then b else d

variable {x : FVec Ideal S2x16384x256 .f32} {c : IVec S2x16384x3 32} {p : FVec Ideal S1048576x30 .f32}

/-- Under the precondition every coordinate word is below 64. -/
theorem coord_lt (h : fn (F := Ideal) x c p = fun _ => 1#1) (i : S2x16384x3.Idx) : (c i).toNat < 64 := by
  have h0 := congrFun h ix0
  dsimp only [fn] at h0
  have h1 := (IntOp.andi_eq_one.mp h0).1
  have h2 := Host.reduce_andi_all _ _ _ _ _ h1 i
  have h3 := IntOp.andi_eq_one.mp h2
  have h4 := IntOp.cmpi_sge.mp h3.1
  have h5 := IntOp.cmpi_slt.mp h3.2
  have h4' : (0 : Int) ≤ (c i).toInt := h4
  have h5' : (c i).toInt < 64 := h5
  have := BitVec.toInt_eq_toNat_cond (c i)
  split at this <;> omega

/-- Under the precondition the table's row for the coordinates `(a, b, d)` is the small table's three rows side by
    side. -/
theorem table_eq (h : fn (F := Ideal) x c p = fun _ => 1#1) (a b d : Fin 64) (k : Fin 30) :
    p (ix2 ⟨a.val * 16384 + b.val * 128 + d.val, by omega⟩ k)
      = p (ix2 ⟨(pick a b d k.val).val, by omega⟩ ⟨20 + k.val % 10, by omega⟩) := by
  have h0 := congrFun h ix0
  dsimp only [fn] at h0
  have h1 := (IntOp.andi_eq_one.mp h0).2
  have h2 := Host.reduce_andi_all _ _ _ _ _ h1 (ix4 a b d k)
  clear h0 h1 h
  revert h2
  pointwise
  intro h2
  rw [(WordCmp.ofBool_decide_eq_one_iff _).mp h2]
  by_cases h10 : k.val < 10
  · rw [dif_pos h10]
    refine congrArg p ((ix2_inj _ _ _ _).mpr ⟨Fin.ext ?_, Fin.ext ?_⟩)
    · simp only [pick, if_pos h10]
    · show 20 + k.val = 20 + k.val % 10
      omega
  · rw [dif_neg h10]
    by_cases h20 : k.val < 20
    · rw [dif_pos (by omega)]
      refine congrArg p ((ix2_inj _ _ _ _).mpr ⟨Fin.ext ?_, Fin.ext ?_⟩)
      · simp only [pick, if_neg h10, if_pos h20]
      · show 20 + (k.val - 10) = 20 + k.val % 10
        omega
    · rw [dif_neg (by omega)]
      refine congrArg p ((ix2_inj _ _ _ _).mpr ⟨Fin.ext ?_, Fin.ext ?_⟩)
      · simp only [pick, if_neg h10, if_neg h20]
      · show 20 + (k.val - 10 - 10) = 20 + k.val % 10
        omega

end Cert.Proof
-- ==== Proof.Spec.lean ====
module

public import proofs.«01_k».proof.Proof.Gen.Pre_separable_table
public import Idealize.ShloMosaic.Lib.Pointwise

@[expose] public section

noncomputable section

/-! # The common value

Both programs compute this function of their arguments where the precondition holds: the first 256 features are the
input's, and the last 30 are, ten per coordinate, the last ten columns of the table's row whose number is the
coordinate. -/

namespace Cert.Proof

open Idealize.ShloMosaic
open Cert.Pre_separable_table

variable (x : FVec Ideal S2x16384x256 .f32) {c : IVec S2x16384x3 32} (p : FVec Ideal S1048576x30 .f32)

/-- One of the 30 looked up features of a query: feature `k` is column `20 + k % 10` of the row numbered by the query's
    coordinate `k / 10`. -/
def feature (hc : ∀ i : S2x16384x3.Idx, (c i).toNat < 64) (b : Fin 2) (n : Fin 16384) (k : Fin 30) : Ideal .f32 :=
  p (ix2 ⟨(c (ix3 b n ⟨k.val / 10, by omega⟩)).toNat, (hc _).trans (by decide)⟩ ⟨20 + k.val % 10, by omega⟩)

/-- The result at batch `b`, query `n` and feature `j`. -/
def result (hc : ∀ i : S2x16384x3.Idx, (c i).toNat < 64) (b : Fin 2) (n : Fin 16384) (j : Fin 286) : Ideal .f32 :=
  if h : j.val < 256 then x (ix3 b n ⟨j.val, h⟩) else feature p hc b n ⟨j.val - 256, by omega⟩

end Cert.Proof
-- ==== Proof.Ref.lean ====
module

public import proofs.«01_k».proof.Proof.Gen.ReferenceIdeal.Read
public import proofs.«01_k».proof.Proof.Pre
public import proofs.«01_k».proof.Proof.Spec

@[expose] public section

noncomputable section

/-! # What the reference computes, element by element

Where every coordinate word is below 64, the row number the reference looks up is `a · 16384 + b · 128 + d`, below the
table's 1048576 rows: it is not negative, so it is not wrapped; it is in range, so the lookup is neither clamped nor
masked. Its scale factor is 1. -/

namespace Cert.Proof

open Idealize.ShloMosaic
open Cert.ReferenceIdeal Cert.ReferenceIdeal.Read Cert.ReferenceIdeal.Facts

variable (x : FVec Ideal S2x16384x256 .f32) (c : IVec S2x16384x3 32) (p : FVec Ideal S1048576x30 .f32)

/-- The row number of a query, as a word. -/
theorem row_word (b : Fin 2) (n : Fin 16384) :
    val_main_v11 (F := Ideal) c (ix2 b n)
      = c (ix3 b n 0) * 16384#32 + c (ix3 b n 1) * 128#32 + c (ix3 b n 2) := by
  pointwise [val_main_v11, val_main_v8, val_main_v3, val_main_v1, val_main_v0, val_main_v2, val_main_c, val_main_v7,
    val_main_v5, val_main_v4, val_main_v6, val_main_c_0, val_main_v10, val_main_v9]
  rfl

variable {c} (hc : ∀ i : S2x16384x3.Idx, (c i).toNat < 64)
include hc

/-- The row number of a query, as a number: nothing wraps. -/
theorem row_toNat (b : Fin 2) (n : Fin 16384) :
    (val_main_v11 (F := Ideal) c (ix2 b n)).toNat
      = (c (ix3 b n 0)).toNat * 16384 + (c (ix3 b n 1)).toNat * 128 + (c (ix3 b n 2)).toNat := by
  have h0 := hc (ix3 b n 0)
  have h1 := hc (ix3 b n 1)
  have h2 := hc (ix3 b n 2)
  rw [row_word]
  simp only [BitVec.toNat_add, BitVec.toNat_mul, BitVec.toNat_ofNat]
  omega

/-- The row number of a query is below the table's row count. -/
theorem row_lt (b : Fin 2) (n : Fin 16384) : (val_main_v11 (F := Ideal) c (ix2 b n)).toNat < 1048576 := by
  have h0 := hc (ix3 b n 0)
  have h1 := hc (ix3 b n 1)
  have h2 := hc (ix3 b n 2)
  rw [row_toNat hc]
  omega

/-- The row number read as a signed word is the same number. -/
theorem row_toInt (b : Fin 2) (n : Fin 16384) :
    (val_main_v11 (F := Ideal) c (ix2 b n)).toInt = ((val_main_v11 (F := Ideal) c (ix2 b n)).toNat : Int) := by
  have := row_lt hc b n
  exact BitVec.toInt_eq_toNat_of_lt (by omega)

/-- The lookup's row word is the row number itself: it is not negative, so it is not wrapped. -/
theorem lookup_word (b : Fin 2) (n : Fin 16384) :
    val_main_call0_v5 (F := Ideal) c (ix3 b n 0) = val_main_v11 (F := Ideal) c (ix2 b n) := by
  rw [val_main_call0_v5_apply]
  have e : idx_main_call0_v5 (ix3 b n 0) = ix2 b n := by
    funext a; match a with | ⟨0, _⟩ => rfl | ⟨1, _⟩ => rfl
  rw [e, val_main_call0_v4_apply, val_main_call0_v1_apply, val_main_call0_v0_apply, val_main_call0_c_apply]
  have hn : ¬ IntOp.cmpi .slt (val_main_v11 (F := Ideal) c (ix2 b n)) 0#32 = 1#1 := by
    rw [IntOp.cmpi_slt, row_toInt hc]
    exact not_lt.mpr (Int.natCast_nonneg _)
  exact if_neg hn

/-- Every query's row is in range, so no looked up row is masked. -/
theorem mask_one (b : Fin 2) (n : Fin 16384) (k : Fin 30) : val_main_call0_v14 (F := Ideal) c (ix3 b n k) = 1#1 := by
  rw [val_main_call0_v14_apply]
  unfold val_main_call0_v12
  refine Host.reduce_andi_one _ _ _ _ _ rfl fun i => ?_
  obtain ⟨b', n', u, rfl⟩ : ∃ (b' : Fin 2) (n' : Fin 16384) (u : Fin 1), i = ix3 b' n' u := ⟨i 0, i 1, i 2, eq_ix3 i⟩
  obtain rfl : u = 0 := Subsingleton.elim _ _
  rw [val_main_call0_v11_apply, val_main_call0_v7_apply, val_main_call0_v10_apply, lookup_word hc,
    val_main_call0_v6_apply, val_main_call0_v9_apply, val_main_call0_v8_apply, val_main_call0_c_1_apply,
    val_main_call0_c_2_apply]
  have := row_lt hc b' n'
  refine IntOp.andi_eq_one.mpr ⟨IntOp.cmpi_sge.mpr ?_, IntOp.cmpi_sle.mpr ?_⟩
  · rw [row_toInt hc]
    exact Int.natCast_nonneg _
  · rw [row_toInt hc]
    show _ ≤ (1048575 : Int)
    omega

omit hc in
/-- The lookup read at an index: the table at the start word, read signed and clamped to the table's rows. -/
theorem gather_apply (w : IVec S2x16384x1 32) (b : Fin 2) (n : Fin 16384) (k : Fin 30) :
    Host.gather gather_S1048576x30_S2x16384x1_S2x16384x30_2_0_n_n_0_2_130 p w (ix3 b n k)
      = p (ix2 ⟨min (w (ix3 b n 0)).toInt.toNat 1048575, by omega⟩ k) := by
  unfold Host.gather
  refine congrArg p (funext fun a => Fin.ext ?_)
  match a with
  | ⟨0, _⟩ =>
    show GatherDims.start _ _ w 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1048576x30_S2x16384x1_S2x16384x30_2_0_n_n_0_2_130.startIndexMap from List.mem_singleton.mpr rfl)]
    refine congrArg₂ min (congrArg (fun i => (w i).toInt.toNat) (funext fun b => Fin.ext ?_)) rfl
    match b with
    | ⟨0, _⟩ => rfl
    | ⟨1, _⟩ => rfl
    | ⟨2, _⟩ => rfl
  | ⟨1, _⟩ =>
    show GatherDims.start _ _ w 1 + GatherDims.batchCoord _ _ 1 + GatherDims.offCoord _ _ 1 = _
    rw [GatherDims.batchCoord_eq_zero _ _ _ List.not_mem_nil]
    unfold GatherDims.start GatherDims.offCoord
    rw [dif_neg (show (1 : Fin 2) ∉ gather_S1048576x30_S2x16384x1_S2x16384x30_2_0_n_n_0_2_130.startIndexMap by decide),
      dif_pos (show (1 : Fin 2) ∈ gather_S1048576x30_S2x16384x1_S2x16384x30_2_0_n_n_0_2_130.sKept by decide)]
    simp only [Nat.zero_add]
    rfl

/-- The scaled lookup read at an index: the table at the query's row. -/
theorem scaled_apply (b : Fin 2) (n : Fin 16384) (k : Fin 30) :
    val_main_v14 (F := Ideal) c p (ix3 b n k)
      = p (ix2 ⟨(c (ix3 b n 0)).toNat * 16384 + (c (ix3 b n 1)).toNat * 128 + (c (ix3 b n 2)).toNat, by
          have h0 := hc (ix3 b n 0); have h1 := hc (ix3 b n 1); have h2 := hc (ix3 b n 2); omega⟩ k) := by
  rw [val_main_v14_apply, val_main_v12_apply, mask_one hc, val_main_v13_apply, val_main_cst_apply]
  unfold val_main_call0_v13
  rw [gather_apply]
  have hr := row_toNat hc b n
  have hl := row_lt hc b n
  have e : ∀ v : Ideal .f32, FloatOps.mulf v (FloatOps.ofBits (F := Ideal) .f32 0x3F800000#32) = v := fun v => by
    show (v : EReal) * Ideal.ofBits .f32 0x3F800000#32 = v
    rw [Ideal.ofBits_one_f32]
    exact mul_one _
  rw [ValueIdx.select_one, e]
  refine congrArg p ((ix2_inj _ _ _ _).mpr ⟨Fin.ext ?_, rfl⟩)
  show min (val_main_call0_v5 (F := Ideal) c (ix3 b n 0)).toInt.toNat 1048575 = _
  rw [lookup_word hc, row_toInt hc, Int.toNat_natCast, hr]
  rw [hr] at hl
  exact min_eq_left (by omega)

omit hc in
/-- Where the precondition holds the reference's result is the common value. -/
theorem ref_apply (h : Cert.Pre_separable_table.fn (F := Ideal) x c p = fun _ => 1#1) (b : Fin 2) (n : Fin 16384)
    (j : Fin 286) : val_main_v15 (F := Ideal) x c p (ix3 b n j) = result x p (coord_lt h) b n j := by
  unfold val_main_v15 result
  have hs := scaled_apply p (coord_lt h) b n
  generalize val_main_v14 (F := Ideal) c p = y at hs ⊢
  pointwise
  by_cases hj : j.val < 256
  · rw [dif_pos hj, dif_pos hj]
  · rw [dif_neg hj, dif_neg hj, hs]
    have t := table_eq h ⟨(c (ix3 b n 0)).toNat, coord_lt h _⟩ ⟨(c (ix3 b n 1)).toNat, coord_lt h _⟩
      ⟨(c (ix3 b n 2)).toNat, coord_lt h _⟩ ⟨j.val - 256, by omega⟩
    refine t.trans ?_
    unfold feature
    refine congrArg p ((ix2_inj _ _ _ _).mpr ⟨Fin.ext ?_, rfl⟩)
    have hp : (pick (n := 64) ⟨(c (ix3 b n 0)).toNat, coord_lt h _⟩ ⟨(c (ix3 b n 1)).toNat, coord_lt h _⟩
        ⟨(c (ix3 b n 2)).toNat, coord_lt h _⟩ (j.val - 256)).val
        = (c (ix3 b n (pick 0 1 2 (j.val - 256)))).toNat := by
      unfold pick
      split
      · rfl
      · split <;> rfl
    refine hp.trans (congrArg (fun a => (c (ix3 b n a)).toNat) (Fin.ext ?_))
    show (pick (n := 3) 0 1 2 (j.val - 256)).val = (j.val - 256) / 10
    unfold pick
    split
    · show 0 = _
      omega
    · split
      · show 1 = _
        omega
      · show 2 = _
        omega

end Cert.Proof
-- ==== Proof.Block.lean ====
module

public import proofs.«01_k».proof.Proof.Gen.ReferenceIdeal.Read
public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

/-! # What one grid point of the kernel stores, and the array that the grid points together leave -/

namespace Cert.Proof

open Idealize.ShloMosaic Idealize.ShloMosaic.TcCoe
open Cert.KernelIdeal Cert.KernelIdeal.Gen

/-- The product of the table's ten columns, as rows, with the one-hot columns of the coordinates' words: each column picks the
    table's row that its word numbers, where the word is below 64. -/
theorem pay_apply (v : Vec Ideal S64x10 .f32) (w : Vec Ideal S1x32x128 .i32) (q : Fin 10) (r : Fin 32) (l : Fin 128)
    (h : (w (ix3 0 r l)).toNat < 64) : k0_pay4 v w (ix3 q r l) = v (ix2 ⟨(w (ix3 0 r l)).toNat, h⟩ q) := by
  pointwise [k0_pay4, k0_pay3]
  rw [Finset.sum_eq_single ⟨(w (ix3 0 r l)).toNat, h⟩]
  · rw [IntOp.cmpi_eq.mpr (BitVec.eq_of_toNat_eq (by rw [BitVec.toNat_ofNat]; show (w (ix3 0 r l)).toNat % 2 ^ 32 = _; omega))]
    exact (congrArg (v _ * ·) (by norm_num [FloatOps.sitofp])).trans (mul_one _)
  · intro k _ hk
    have hn : IntOp.cmpi .eq (BitVec.ofNat 32 k.val) (w (ix3 0 r l)) = 0#1 := by
      refine ValueIdx.eq_zero_of_ne_one fun he => hk (Fin.ext ?_)
      have := congrArg BitVec.toNat (IntOp.cmpi_eq.mp he)
      rw [BitVec.toNat_ofNat] at this
      show k.val = (w (ix3 0 r l)).toNat
      omega
    rw [hn]
    exact (congrArg (v _ * ·) (by norm_num [FloatOps.sitofp])).trans (mul_zero _)
  · exact fun hk => absurd (Finset.mem_univ _) hk

/-- The block of the input with its axes reordered and its two leading axes joined: row `r` of the block is batch `r % 2` of
    run `r / 2`. -/
theorem pay_x (x : Vec Ideal S2x16x128x256 .f32) (k : Fin 256) (r : Fin 32) (l : Fin 128) :
    k0_pay2 x (ix3 k r l) = x (ix4 ⟨r.val % 2, by omega⟩ ⟨r.val / 2, by omega⟩ l k) := by
  pointwise [k0_pay2]

/-- The third coordinate's features are the same function of the table's block and of the coordinate's words as the first's. -/
theorem pay1_eq (v : Vec Ideal S64x10 .f32) (w : Vec Ideal S1x32x128 .i32) :
    k0_pay1 (k0_pay3 v) (iota .tc S64x32x128 32 [0] iota_S64x32x128_d0_w32) w = k0_pay4 v w := rfl

/-- The second coordinate's features are the same function of the table's block and of the coordinate's words as the first's. -/
theorem pay5_eq (v : Vec Ideal S64x10 .f32) (w : Vec Ideal S1x32x128 .i32) : k0_pay5 v w = k0_pay4 v w := rfl

variable (m : (ℓ : Loc nD τ sig) → Buf (Elt Ideal) ℓ)

/-- The coordinates as the kernel is given them: row `R`, place `l` is batch `R % 2`, query `R / 2 * 128 + l`. -/
theorem entry_coords (c : Dev nD) (a : Fin 3) (R : Fin 256) (l : Fin 128) :
    V m c main_v3 (ix3 a R l) = m ((c.tc : Thread nD τ).loc main_arg1)
      (ix3 ⟨R.val % 2, by omega⟩ ⟨R.val / 2 * 128 + l.val, by omega⟩ a) := by
  show StableHlo.after hostOps0 _ _ _ = _
  entry_read
  pointwise

/-- The input as the kernel is given it: run `j`, place `l` is query `j * 128 + l`. -/
theorem entry_x (c : Dev nD) (b : Fin 2) (j : Fin 128) (l : Fin 128) (k : Fin 256) :
    V m c main_v0 (ix4 b j l k) = m ((c.tc : Thread nD τ).loc main_arg0)
      (ix3 b ⟨j.val * 128 + l.val, by omega⟩ k) := by
  show StableHlo.after hostOps0 _ _ _ = _
  entry_read
  pointwise

/-- The table as the kernel is given it is the table's first 64 rows. -/
theorem entry_p (c : Dev nD) (v : Fin 64) (k : Fin 30) :
    V m c main_v4 (ix2 v k) = m ((c.tc : Thread nD τ).loc main_arg2) (ix2 ⟨v.val, by omega⟩ k) := by
  show StableHlo.after hostOps0 _ _ _ = _
  entry_read
  pointwise

/-- The coordinates' block of point `t` is the `t`-th along the rows. -/
theorem idx0 : ∀ t : Fin cfg0.N, win0_0.index t = ![0, t.val, 0] := by decide +kernel
/-- The input's block of point `t` is the `t`-th along the runs. -/
theorem idx1 : ∀ t : Fin cfg0.N, win0_1.index t = ![0, t.val, 0, 0] := by decide +kernel
/-- The table's block is the same at every point. -/
theorem idx2 : ∀ t : Fin cfg0.N, win0_2.index t = ![0, 0] := by decide +kernel
/-- The output's block of point `t` is the `t`-th along the rows. -/
theorem idx3 : ∀ t : Fin cfg0.N, win0_3.index t = ![0, t.val, 0] := by decide +kernel

/-- There are eight points. -/
theorem t_lt (t : Fin cfg0.N) : t.val < 8 := t.isLt

/-- Row `r` of point `t`'s block is one of the 256 rows. -/
theorem block_row_lt (t : Fin cfg0.N) (r : Fin 32) : t.val * 32 + r.val < 256 := by have := t_lt t; omega

/-- The coordinates' block at point `t` is rows `32 t` to `32 t + 31`. -/
theorem blk_coords (c : Dev nD) (t : Fin cfg0.N) (a : Fin 3) (r : Fin 32) (l : Fin 128) :
    iblk m c 0 t (ix3 a r l) = V m c main_v3 (ix3 a ⟨t.val * 32 + r.val, block_row_lt t r⟩ l) := by
  blk_ext [iblk, idx0 t]

/-- The input's block at point `t` is runs `16 t` to `16 t + 15`. -/
theorem blk_x (c : Dev nD) (t : Fin cfg0.N) (b : Fin 2) (j : Fin 16) (l : Fin 128) (k : Fin 256) :
    iblk m c 1 t (ix4 b j l k) = V m c main_v0 (ix4 b ⟨t.val * 16 + j.val, by have := t_lt t; omega⟩ l k) := by
  blk_ext [iblk, idx1 t]

/-- The table's block is the whole of the table that the kernel is given. -/
theorem blk_p (c : Dev nD) (t : Fin cfg0.N) (v : Fin 64) (k : Fin 30) :
    iblk m c 2 t (ix2 v k) = V m c main_v4 (ix2 v k) := by
  blk_ext [iblk, idx2 t]

/-- The result as the kernel lays it out: feature `k`, then row `R`, which is batch `R % 2` of the `R / 2`-th run of 128
    queries, then the query's place `l` in the run. -/
def laid (x : FVec Ideal S2x16384x256 .f32) {w : IVec S2x16384x3 32} (p : FVec Ideal S1048576x30 .f32)
    (hc : ∀ i : S2x16384x3.Idx, (w i).toNat < 64) (k : Fin 286) (R : Fin 256) (l : Fin 128) : Ideal .f32 :=
  result x p hc ⟨R.val % 2, by omega⟩ ⟨R.val / 2 * 128 + l.val, by omega⟩ k

variable (c : Dev nD) (hc : ∀ i : S2x16384x3.Idx, ((m ((c.tc : Thread nD τ).loc main_arg1) : IVec S2x16384x3 32) i).toNat < 64)

include hc in
/-- Point `t` stores, at the `q`-th of the ten features of coordinate `a`, the laid out result's feature `256 + 10 a + q`. -/
theorem feat_apply (t : Fin cfg0.N) (a : Fin 3) (w : Vec Ideal S1x32x128 .i32)
    (hw : ∀ r l, w (ix3 0 r l) = iblk m c 0 t (ix3 a r l)) (q : Fin 10) (r : Fin 32) (l : Fin 128)
    (k : Fin 286) (hk : k.val = 256 + 10 * a.val + q.val) (R : Fin 256) (hR : R.val = t.val * 32 + r.val) :
    k0_pay4 (View.ld (iblk m c 2 t) (Rect.unit ![0, 20] ![64, 10] inb_S64x30_S64x10_0_20)) w (ix3 q r l)
      = laid (m ((c.tc : Thread nD τ).loc main_arg0)) (m ((c.tc : Thread nD τ).loc main_arg2)) hc k R l := by
  obtain rfl : R = ⟨t.val * 32 + r.val, block_row_lt t r⟩ := Fin.ext hR
  have hwv := (hw r l).trans ((blk_coords m c t a r l).trans (entry_coords m c a _ l))
  have hlt : (w (ix3 0 r l)).toNat < 64 := by rw [hwv]; exact hc _
  rw [pay_apply _ w q r l hlt]
  refine (View.ld_unit_apply_of _ _ _ _ _ (ix2 ⟨(w (ix3 0 r l)).toNat, hlt⟩ ⟨20 + q.val, by omega⟩) ?_).trans ?_
  · intro i; fin_cases i
    · exact (Nat.zero_add _).symm
    · rfl
  · rw [blk_p, entry_p]
    unfold laid result
    rw [dif_neg (by omega)]
    unfold feature
    refine congrArg (m ((c.tc : Thread nD τ).loc main_arg2)) ((ix2_inj _ _ _ _).mpr ⟨Fin.ext ?_, Fin.ext ?_⟩)
    · show (w (ix3 0 r l)).toNat = _
      rw [hwv]
      refine congrArg (fun i => BitVec.toNat (m ((c.tc : Thread nD τ).loc main_arg1) i)) (congrArg (ix3 _ _) (Fin.ext ?_))
      show a.val = (k.val - 256) / 10
      omega
    · show 20 + q.val = 20 + (k.val - 256) % 10
      omega

/-- Point `t` stores the result's rows `32 t` to `32 t + 31`. -/
theorem out_apply (t : Fin cfg0.N) (k : Fin 286) (r : Fin 32) (l : Fin 128) (R : Fin 256) (hR : R.val = t.val * 32 + r.val) :
    outsAt0 m c t (ix3 k r l)
      = laid (m ((c.tc : Thread nD τ).loc main_arg0)) (m ((c.tc : Thread nD τ).loc main_arg2)) hc k R l := by
  unfold outsAt0
  frame_out
  canon_tiles x h using (View.cover_of_tiledBy _ ![2, 32, 128] (by sl_kernel_rfl) _)
  all_goals
    obtain ⟨q, rfl⟩ : ∃ q, x = ix3 q r l :=
      ⟨x 0, (eq_ix3 x).trans (congrArg₂ (ix3 (x 0)) (Fin.ext h1.symm) (Fin.ext h2.symm))⟩
  · rw [pay1_eq]
    refine feat_apply m c hc t 2 _ (fun r l => ?_) q r l k h0 R hR
    refine View.ld_unit_apply_of _ _ _ _ _ _ fun i => ?_
    fin_cases i <;> simp [ix3]
  · rw [pay5_eq]
    refine feat_apply m c hc t 1 _ (fun r l => ?_) q r l k h0 R hR
    refine View.ld_unit_apply_of _ _ _ _ _ _ fun i => ?_
    fin_cases i <;> simp [ix3]
  · refine feat_apply m c hc t 0 _ (fun r l => ?_) q r l k h0 R hR
    refine View.ld_unit_apply_of _ _ _ _ _ _ fun i => ?_
    fin_cases i <;> simp [ix3]
  · rw [pay_x, blk_x, entry_x]
    have h0 : k.val = q.val := h0
    unfold laid result
    rw [dif_pos (by omega)]
    refine congrArg (m ((c.tc : Thread nD τ).loc main_arg0)) ((ix3_inj _ _ _ _ _ _).mpr ⟨Fin.ext ?_, Fin.ext ?_, Fin.ext h0.symm⟩)
    · show r.val % 2 = R.val % 2
      omega
    · show (t.val * 16 + r.val / 2) * 128 + l.val = R.val / 2 * 128 + l.val
      omega

/-- When every point has run, the kernel's output array is the laid out result. -/
theorem array_eq : (dats m 0 c).arrAt 3 cfg0.N = fun i : S286x256x128.Idx =>
    laid (m ((c.tc : Thread nD τ).loc main_arg0)) (m ((c.tc : Thread nD τ).loc main_arg2)) hc (i 0) (i 1) (i 2) := by
  refine (dats m 0 c).arrAt_eq_of_covers 3 _ (by decide +kernel) fun t hf y => ?_
  blk_simp
  rw [after0_3]
  have e0 : (((win0_3.blk t).view.emb y) 0).val = (y 0).val := by blk_simp [idx3 t]
  have e1 : (((win0_3.blk t).view.emb y) 1).val = t.val * 32 + (y 1).val := by blk_simp [idx3 t]
  have e2 : (((win0_3.blk t).view.emb y) 2).val = (y 2).val := by blk_simp [idx3 t]
  refine (congrArg (outsAt0 m c t) (funext fun a => ?_)).trans (out_apply m c hc t _ (y 1) _ _ e1)
  match a with
  | ⟨0, _⟩ => exact Fin.ext e0.symm
  | ⟨1, _⟩ => rfl
  | ⟨2, _⟩ => exact Fin.ext e2.symm

end Cert.Proof
-- ==== Proof.Run.lean ====
module

public import proofs.«01_k».proof.Proof.Block

@[expose] public section

set_option maxRecDepth 16384

noncomputable section

/-! # The run of the kernel's program -/

namespace Cert.Proof

open Idealize.ShloMosaic Idealize.ShloMosaic.TcCoe Idealize.SL.Sem
open Cert.KernelIdeal Cert.KernelIdeal.Gen

/-- The result array from the function that both programs compute. -/
def resultArray (x : FVec Ideal S2x16384x256 .f32) {w : IVec S2x16384x3 32} (p : FVec Ideal S1048576x30 .f32)
    (hc : ∀ i : S2x16384x3.Idx, (w i).toNat < 64) : FVec Ideal S2x16384x286 .f32 :=
  fun i => result x p hc (i 0) (i 1) (i 2)

/-- After the kernel's pipeline, the reshape, the transposition and the last reshape turn the laid out result into the
    result array. -/
theorem tail_result (m : (ℓ : Loc nD τ sig) → Buf (Elt Ideal) ℓ) (c : Dev nD)
    (hc : ∀ i : S2x16384x3.Idx, ((m ((c.tc : Thread nD τ).loc main_arg1) : IVec S2x16384x3 32) i).toNat < 64) :
    Pipeline.afterTail₀ cfgs (dats m) 0 (V0 m) [hostOps1] c main_v8
      = resultArray (m ((c.tc : Thread nD τ).loc main_arg0)) (m ((c.tc : Thread nD τ).loc main_arg2)) hc := by
  unfold Pipeline.afterTail₀
  show StableHlo.after hostOps1 _ _ = _
  have h5 : Pipeline.withArrays (cfgs 0).spec c (V0 m c) (fun w => (dats m 0 c).arrAt w (cfgs 0).N) (Proc.tc.devRef main_v5)
      = fun i : S286x256x128.Idx =>
        laid (m ((c.tc : Thread nD τ).loc main_arg0)) (m ((c.tc : Thread nD τ).loc main_arg2)) hc (i 0) (i 1) (i 2) :=
    (Pipeline.withArrays_arr (cfgs 0).spec (by decide) c (V0 m c) (fun w => (dats m 0 c).arrAt w (cfgs 0).N) 3).trans
      (array_eq m c hc)
  after_results
  rw [h5]
  funext i
  obtain ⟨b, n, j, rfl⟩ : ∃ b n j, i = ix3 b n j := ⟨i 0, i 1, i 2, eq_ix3 i⟩
  pointwise
  show result _ _ hc _ _ j = result _ _ hc b n j
  exact congrArg₂ (fun b n => result (m ((c.tc : Thread nD τ).loc main_arg0)) (m ((c.tc : Thread nD τ).loc main_arg2)) hc b n j)
    (Fin.ext (by show (n.val / 128 * 2 + b.val) % 2 = b.val; omega))
    (Fin.ext (by show (n.val / 128 * 2 + b.val) / 2 * 128 + n.val % 128 = n.val; omega))

/-- Where every coordinate is below 64, the kernel's program runs, ends with the result array, and leaves its arguments
    unchanged. -/
theorem kernel_run (m : (ℓ : Loc nD τ sig) → Buf (Elt Ideal) ℓ) (ρ : Dev nD → PrngReg)
    (hc : ∀ (c : Dev nD) (i : S2x16384x3.Idx), ((m ((c.tc : Thread nD τ).loc main_arg1) : IVec S2x16384x3 32) i).toNat < 64) :
    θ_run (defs (F := Ideal)) (onTc (τ := τ) (main (F := Ideal))) ⟨m, fun _ => 0, ρ⟩ (fun r => ∀ c : Dev nD,
      r.2.mem ((c.tc : Thread nD τ).loc main_v8)
          = resultArray (m ((c.tc : Thread nD τ).loc main_arg0)) (m ((c.tc : Thread nD τ).loc main_arg2)) (hc c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  run_from run_main m ρ
  · exact tail_result m c (hc c)
  · exact W_main_arg0 m (dats m) c
  · exact W_main_arg1 m (dats m) c
  · exact W_main_arg2 m (dats m) c

end Cert.Proof
-- ==== Proof.lean ====
module

public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separable_table
public import proofs.«01_k».proof.Proof.Ref
public import proofs.«01_k».proof.Proof.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference's program runs, its arguments end unchanged, and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- From memories that agree on the arguments and satisfy the precondition, the kernel's program and the reference's end
    with equal results and unchanged arguments. -/
theorem values_agree : Cert.algebraic_KernelIdeal_ReferenceIdeal_pre_separable_table := by
  intro m g m' g' hpre hagree
  refine ⟨_, kernel_run m g fun c => coord_lt (hpre c), (θ_run Cert.ReferenceIdeal.defs _ _).mono (fun r h c => ⟨?_, (h c).2⟩)
    (Cert.ReferenceIdeal.Value.run (F := Ideal) m' g')⟩
  rw [(h c).1, Cert.ReferenceIdeal.Read.val_main_v15_eq, (hagree c).1, (hagree c).2.1, (hagree c).2.2]
  funext i
  obtain ⟨b, n, j, rfl⟩ : ∃ b n j, i = ix3 b n j := ⟨i 0, i 1, i 2, eq_ix3 i⟩
  exact ref_apply _ _ (hpre c) b n j

/-- Everything that the certificate claims. -/
theorem claim : Cert.Claim :=
  ⟨Cert.Kernel.Gen.facts, Cert.KernelIdeal.Gen.facts, Cert.ReferenceIdeal.Gen.facts, Cert.Pre_separable_table.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, values_agree⟩

end Cert.Proof

end
